-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S8x256 : Shape := ⟨2, ![8, 256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩

abbrev nBuf : Space → Nat
  | .hbm => 2
  | .vmem => 2
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .local _ .vmem, ⟨0, _⟩ => ⟨S8x256, .f32⟩
  | .local _ .vmem, ⟨1, _⟩ => ⟨S4096x256, .f32⟩
  | _, _ => ⟨S4096x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256x4096 : Shape := ⟨2, ![256, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S256x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .i32⟩
  | .hbm, ⟨21, _⟩ => ⟨S4096x4096, .f32⟩
  | .hbm, ⟨22, _⟩ => ⟨S4096x4096, .i32⟩
  | .hbm, ⟨23, _⟩ => ⟨S4096x1, .i32⟩
  | .hbm, ⟨24, _⟩ => ⟨S4096, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x256, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call1_v0 : Ref sig .tc := ⟨.hbm, 20, rfl⟩
abbrev main_call1_v1_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Mean.Kernel.lean ====
/-
  WHAT THE KERNEL COMPUTES: every element of its result is the sum of row 1 of `x` times the constant 1/256.
  `out_apply`: what the body leaves at any place of its staging block. `final`: the grid has one point, whose block is the whole
  result array, which therefore ends holding `result`. `run`: the run, read.
-/
module

public import proofs.«01_k».proof.Proof.Gen.KernelIdeal.Value
public import Idealize.ShloMosaic.Lib.Pointwise

@[expose] public section

set_option maxRecDepth 16384

noncomputable section

namespace Cert.KernelIdeal.Mean

open Cert.KernelIdeal Cert.KernelIdeal.Gen Idealize.ShloMosaic Idealize.ShloMosaic.TcCoe Idealize.SL.Sem
open Idealize.ShloMosaic.Pipeline (Dat)

/-- The mean of row 1 as the kernel takes it: the row's sum times the float constant 1/256. -/
def mean1 (x : FVec Ideal S4096x256 .f32) : EReal :=
  (∑ k : Fin 256, x (ix2 (1 : Fin 4096) k)) * Ideal.ofBits .f32 0x3B800000#32

/-- The body's payload, from the one row that it loads: the row's sum times the constant, everywhere. -/
theorem pay_apply (v : Vec Ideal S1x256 .f32) (y : S4096x256.Idx) :
    k0_pay1 v y = (∑ k : Fin 256, v (ix2 (0 : Fin 1) k)) * Ideal.ofBits .f32 0x3B800000#32 := by
  pointwise [k0_pay1]
  simp

/-- What the body leaves in its staging block, from the eight rows that it is given: the sum of row 1 times the
    constant, at every place. -/
theorem out_apply (b : Vec Ideal S8x256 .f32) (y : S4096x256.Idx) :
    out0_1 b y = (∑ k : Fin 256, b (ix2 (1 : Fin 8) k)) * Ideal.ofBits .f32 0x3B800000#32 := by
  unfold out0_1
  rw [View.canon_unit_zero (S := S4096x256) (funext fun a => by fin_cases a <;> rfl), pay_apply]
  pointwise

variable (m : (ℓ : Loc nD τ sig) → Buf (Elt Ideal) ℓ) (ρ : Dev nD → PrngReg)

/-- The input block at the point is the first eight rows of `x`; its row 1 is row 1 of `x`. -/
theorem iblk_row1 (c : Dev nD) (t : Fin cfg0.N) (k : Fin 256) :
    (iblk m c 0 t : Vec Ideal S8x256 .f32) (ix2 (1 : Fin 8) k)
      = (m ((c : Thread nD τ).loc main_arg0) : FVec Ideal S4096x256 .f32) (ix2 (1 : Fin 4096) k) := by
  have hi : win0_0.index t 0 = 0 ∧ win0_0.index t 1 = 0 := ⟨rfl, rfl⟩
  unfold iblk
  rw [View.read_apply]
  show V m c main_arg0 _ = m (c.tc.loc main_arg0) _
  unfold V
  congr 1
  funext a
  apply Fin.ext
  match a with
  | ⟨0, _⟩ => show win0_0.index t 0 * 8 + 1 * 1 = 1; rw [hi.1]
  | ⟨1, _⟩ => show win0_0.index t 1 * 256 + 1 * k.val = k.val; rw [hi.2]; omega

/-- The result array: the mean of row 1 of `x` at every index. -/
def result (c : Dev nD) : Buf (Elt Ideal) ((c : Thread nD τ).loc main_v0) :=
  fun _ => mean1 (m ((c : Thread nD τ).loc main_arg0))

/-- What the point writes back is its block of `result`. -/
theorem flushed_eq (c : Dev nD) (t : Fin cfg0.N) (_ : (cfg0.win 1).flush t = true) :
    (dats m 0 c).flushed 1 t = ((cfg0.win 1).blk t).view.read (Elt Ideal) (result m c) := by
  rw [Value.flushed1]
  funext y
  rw [View.read_apply]
  show out0_1 (iblk m c 0 t) _ = mean1 _
  rw [out_apply]
  unfold mean1
  simp only [iblk_row1]

/-- The array after the run: the one block holds all of its 4096 rows. -/
theorem final (c : Dev nD) : (dats m 0 c).arrAt 1 cfg0.N = result m c :=
  (dats m 0 c).arrAt_eq_of_cover 1 (result m c) (flushed_eq m c) fun i => by
    have h0 : (i 0 : Nat) < 4096 := (i 0).isLt
    have h1 : (i 1 : Nat) < 256 := (i 1).isLt
    have hx : ∀ t : Fin grid0.N, win0_1.index t 0 = 0 ∧ win0_1.index t 1 = 0 := by decide +kernel
    refine ⟨⟨0, by decide⟩, flush0_1 _, ?_⟩
    generalize (⟨0, _⟩ : Fin cfg0.N) = t
    show i ∈ ((View.whole main_v0).slice (win0_1.rect t)).set
    rw [View.set_slice_whole, Rect.mem_set_unit]
    intro a
    match a with
    | ⟨0, _⟩ =>
      show win0_1.index t 0 * 4096 ≤ (i 0 : Nat) ∧ (i 0 : Nat) < win0_1.index t 0 * 4096 + 4096
      rw [(hx t).1]; omega
    | ⟨1, _⟩ =>
      show win0_1.index t 1 * 256 ≤ (i 1 : Nat) ∧ (i 1 : Nat) < win0_1.index t 1 * 256 + 256
      rw [(hx t).2]; omega

/-- The run: the result array ends at `result`, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono (fun _ h c => ⟨(h c).1.trans (final m c), (h c).2⟩) (Value.run_blocks m ρ)

end Cert.KernelIdeal.Mean

end
-- ==== Proof.Mean.Argsort.lean ====
/-
  A STABLE ARGSORT OF A SORTED ARRAY IS THE IDENTITY. The reference sorts every row of its distance matrix and then
  takes the argsort of the sorted rows. Whatever the distances are, a stable sort of a row that is already in order moves
  nothing, so the argsort's payload, the column numbers, comes back as it went in (`argsort_sort`).
-/
module

public import Idealize.ShloMosaic.Lib.SortFacts
public import Idealize.ShloMosaic.PureOps.Ideal

@[expose] public section

namespace Cert.Mean

open Idealize.ShloMosaic

/-- The stable insertion sort leaves a list without an inversion as it is: each element it inserts is met by a head that
    does not sort strictly before it. -/
theorem stableSort_of_ordered {ι : Type} (before : ι → ι → Bool) :
    ∀ l : List ι, l.Pairwise (fun p q => before q p = false) → stableSort before l = l
  | [], _ => rfl
  | a :: l, h => by
    obtain ⟨ha, hl⟩ := List.pairwise_cons.mp h
    rw [stableSort, stableSort_of_ordered before l hl]
    cases l with
    | nil => rfl
    | cons b l => rw [insertBefore, ha b List.mem_cons_self]; rfl

/-- Where no later position sorts strictly before an earlier one, every position keeps its place. -/
theorem sortedFrom_of_ordered {n : Nat} (before : Fin n → Fin n → Bool)
    (h : ∀ i j : Fin n, i < j → before j i = false) (k : Fin n) : sortedFrom before k = k := by
  have e : sortPositions n before = List.finRange n :=
    stableSort_of_ordered before _ ((List.pairwise_lt_finRange n).imp fun {i j} hij => h i j hij)
  unfold sortedFrom
  rw [List.get_of_eq e]
  simp

/-- Two steps along one axis are the last of them. -/
theorem along_along {s : Shape} (j : s.Idx) (a : Fin s.rank) (k l : Fin (s.size a)) :
    (j.along a k).along a l = j.along a l := by
  unfold Shape.Idx.along
  exact Function.update_idem ..

theorem along_self {s : Shape} (j : s.Idx) (a : Fin s.rank) (k : Fin (s.size a)) : (j.along a k) a = k := by
  unfold Shape.Idx.along
  exact Function.update_self ..

theorem along_eq {s : Shape} (j : s.Idx) (a : Fin s.rank) : j.along a (j a) = j := by
  unfold Shape.Idx.along
  exact Function.update_eq_self ..

/-- THE ARGSORT OF A SORTED ARRAY: `x` sorted along axis `d` by a strict weak order, then sorted again, stably and by
    the same order of the keys, together with a payload `y`: the payload is unmoved. -/
theorem argsort_sort (s : Shape) (d : Nat) {α β : Type} (cmp : α → α → BitVec 1) (cmp₂ : α × β → α × β → BitVec 1)
    (hcmp : ∀ p q, cmp₂ p q = cmp p.1 q.1) (hasymm : ∀ a b, cmp a b = 1#1 → cmp b a ≠ 1#1)
    (hnt : ∀ a b c, cmp a b ≠ 1#1 → cmp b c ≠ 1#1 → cmp a c ≠ 1#1) (x : s.Idx → α) (y : s.Idx → β) :
    (Host.sort2 s d cmp₂ (Host.sort s d cmp x) y).2 = y := by
  unfold Host.sort2
  by_cases hd : d < s.rank
  · rw [dif_pos hd]
    funext j
    refine (congrArg y (congrArg (j.along ⟨d, hd⟩) (sortedFrom_of_ordered _ (fun i k hik => ?_) _))).trans
      (congrArg y (along_eq j _))
    simp only [hcmp, Host.sort, dif_pos hd, along_along, along_self]
    exact sortedFrom_noInversion (fun p q => cmp (x (j.along ⟨d, hd⟩ p)) (x (j.along ⟨d, hd⟩ q)) == 1#1) _
      (fun p q h => by simpa using hasymm _ _ (by simpa using h)) (fun _ _ h => h)
      (fun p q r h h' => by simpa using hnt _ _ _ (by simpa using h) (by simpa using h')) i k hik
  · rw [dif_neg hd]

end Cert.Mean

end
-- ==== Proof.Mean.Reference.lean ====
/-
  WHAT THE REFERENCE COMPUTES: every element of its result is the mean of row 1 of `x`. The argsort of the sorted
  distances holds the column numbers (Argsort.lean), so its column 1, the index of the row to gather, is 1 in every row.
-/
module

public import proofs.«01_k».proof.Proof.Gen.ReferenceIdeal.Run
public import proofs.«01_k».proof.Proof.Mean.Argsort
public import Idealize.ShloMosaic.Lib.Pointwise
public import Idealize.ShloMosaic.Lib.Routing.Ops

@[expose] public section

set_option maxRecDepth 16384

noncomputable section

namespace Cert.ReferenceIdeal.Mean

open Cert.ReferenceIdeal Cert.ReferenceIdeal.Gen Idealize.ShloMosaic Idealize.ShloMosaic.TcCoe Idealize.SL.Sem

/-- Replacing zero by zero and a NaN by the NaN constant changes no extended real: none is a NaN. -/
theorem canonical (x z : EReal) (w : EReal) (hz : z = 0) :
    Scalar.select (Ideal.cmp .une x x) w (Scalar.select (Ideal.cmp .oeq x z) z x) = x := by
  subst hz
  by_cases h : x = 0 <;> simp [Ideal.cmp, Scalar.select, h]

/-- The sort's comparator is the order of the extended reals. -/
theorem comparator_eq (a b : Ideal .f32) : comparator_f32_d1 a b = Ideal.cmp .olt a b := by
  have h0 : Ideal.ofBits .f32 0x00000000#32 = 0 := Ideal.ofBits_zero_f32
  exact congrArg₂ (Ideal.cmp .olt) (canonical a _ _ h0) (canonical b _ _ h0)

/-- The argsort's comparator is the same one, of the keys alone. -/
theorem comparator₂_eq (p q : Ideal .f32 × BitVec 32) : comparator_f32_i32_d1 p q = comparator_f32_d1 p.1 q.1 := rfl

theorem cmp_olt (a b : EReal) : Ideal.cmp .olt a b = 1#1 ↔ a < b := by
  by_cases h : a < b <;> simp [Ideal.cmp, h]

/-- The argsort of any sorted distances: the column numbers. -/
theorem argsort_eq (D : FVec Ideal S4096x4096 .f32) :
    (Host.sort2 S4096x4096 1 comparator_f32_i32_d1 (Host.sort S4096x4096 1 comparator_f32_d1 D)
      (iotaInDim S4096x4096 32 1)).2 = iotaInDim S4096x4096 32 1 := by
  refine Cert.Mean.argsort_sort _ _ _ _ comparator₂_eq (fun a b h => ?_) (fun a b c h h' => ?_) D _
  · rw [comparator_eq, cmp_olt] at h
    rw [comparator_eq, Ne, cmp_olt]
    exact lt_asymm h
  · rw [comparator_eq, Ne, cmp_olt, not_lt] at h h'
    rw [comparator_eq, Ne, cmp_olt, not_lt]
    exact h'.trans h

/-- The rows to gather, from the argsort's table: column 1, a negative number wrapped around. -/
def picks (T : IVec S4096x4096 32) : IVec S4096x1 32 :=
  have v18 : IVec S4096 32 := shapeCast S4096 (extractStridedSlice S4096x1 ![0, 1] T slices_S4096x4096_S4096x1_0_1) shapeCasts_S4096x1_S4096
  broadcastInDim S4096x1 ![0] bcast_S4096_S4096x1_0
    (select (cmpi .slt v18 (broadcastInDim S4096 ![] bcast_S_S4096 (constantI S_ 32 0#32)))
      (addi v18 (broadcastInDim S4096 ![] bcast_S_S4096 (constantI S_ 32 4096#32))) v18)

/-- Of the column numbers it picks row 1, every time. -/
theorem picks_iota (r : Fin 4096) : picks (iotaInDim S4096x4096 32 1) (ix2 r (0 : Fin 1)) = 1#32 := by
  pointwise [picks]
  decide

/-- Each row's mean, spread over the row, of the rows of `x` that `p` picks. -/
def means (x : FVec Ideal S4096x256 .f32) (p : IVec S4096x1 32) : FVec Ideal S4096x256 .f32 :=
  broadcastInDim S4096x256 ![0, 1] bcast_S4096x1_S4096x256_0_1 (broadcastInDim S4096x1 ![0] bcast_S4096_S4096x1_0
    (Host.divf (Host.reduceAdd (Host.gather gather_S4096x256_S4096x1_S4096x256_1_0_n_n_0_1_1256 x p)
      (constant S_ .f32 0x00000000#32) reducesTo_S4096x256_S4096_d1 h_S_)
      (broadcastInDim S4096 ![] bcast_S_S4096 (constant S_ .f32 0x43800000#32))))

/-- Where every row picks row 1, the gathered array repeats row 1 of `x`. -/
theorem gather_row1 (x : FVec Ideal S4096x256 .f32) (p : IVec S4096x1 32)
    (hp : ∀ r : Fin 4096, p (ix2 r (0 : Fin 1)) = 1#32) (r : Fin 4096) (k : Fin 256) :
    Host.gather gather_S4096x256_S4096x1_S4096x256_1_0_n_n_0_1_1256 x p (ix2 r k) = x (ix2 (1 : Fin 4096) k) := by
  have h := Routing.gather_row gather_S4096x256_S4096x1_S4096x256_1_0_n_n_0_1_1256 rfl rfl rfl rfl rfl x p r k (1 : Fin 4096)
    ((congrArg p (ix2_eq_valueIdx ..).symm).trans (hp r)) (by decide)
  rw [← ix2_eq_valueIdx, ← ix2_eq_valueIdx] at h
  exact h

/-- So the result is, everywhere, the sum of row 1 divided by the float constant 256. -/
theorem means_apply (x : FVec Ideal S4096x256 .f32) (p : IVec S4096x1 32)
    (hp : ∀ r : Fin 4096, p (ix2 r (0 : Fin 1)) = 1#32) (r : Fin 4096) (l : Fin 256) :
    means x p (ix2 r l) = Ideal.div (∑ k : Fin 256, x (ix2 (1 : Fin 4096) k)) (Ideal.ofBits .f32 0x43800000#32) := by
  pointwise [means]
  exact congrArg (Ideal.div · _) (Finset.sum_congr rfl fun k _ => gather_row1 x p hp _ k)

variable (m : (ℓ : Loc nD τ sig) → Buf (Elt Ideal) ℓ)

/-- THE REFERENCE'S RESULT at every index: the mean of row 1 of `x`. -/
theorem result_apply (c : Dev nD) (j : S4096x256.Idx) :
    Value.res_out0 m c j
      = Ideal.div (∑ k : Fin 256, (m ((c.tc : Thread nD τ).loc main_arg0) : FVec Ideal S4096x256 .f32) (ix2 (1 : Fin 4096) k))
          (Ideal.ofBits .f32 0x43800000#32) := by
  unfold Value.res_out0 Value.res_main_v30
  rw [argsort_eq]
  idx_vars j
  exact means_apply _ _ picks_iota _ _

end Cert.ReferenceIdeal.Mean

end
-- ==== Proof.Mean.Equation.lean ====
/-
  THE EQUATION: the kernel multiplies the sum of row 1 by the float constant 1/256, the reference divides it by the float
  constant 256. Both constants are exact, so over the extended reals the two means are one number, at every input.
-/
module

public import proofs.«01_k».proof.Proof.Mean.Kernel
public import proofs.«01_k».proof.Proof.Mean.Reference

@[expose] public section

noncomputable section

namespace Cert.Mean

open Idealize.ShloMosaic Idealize.ShloMosaic.TcCoe Idealize.SL.Sem

/-- The kernel's constant is 1/256, exactly. -/
theorem bits_inv256 : Ideal.ofBits .f32 0x3B800000#32 = ((256⁻¹ : ℝ) : EReal) := by
  simp [Ideal.ofBits, Ideal.ieee, -EReal.coe_mul]; norm_num

/-- The reference's constant is 256, exactly. -/
theorem bits_256 : Ideal.ofBits .f32 0x43800000#32 = ((256 : ℝ) : EReal) := by
  simp [Ideal.ofBits, Ideal.ieee, -EReal.coe_mul]; norm_num

/-- Dividing by 256 is multiplying by 1/256, for every extended real. -/
theorem div_256 (s : EReal) :
    Ideal.div s (Ideal.ofBits .f32 0x43800000#32) = s * Ideal.ofBits .f32 0x3B800000#32 := by
  have h : ((256 : ℝ) : EReal) ≠ 0 := by exact_mod_cast (by norm_num : (256 : ℝ) ≠ 0)
  rw [bits_256, bits_inv256, Ideal.div, if_neg h, EReal.coe_inv]

/-- From equal arguments, the reference's result array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    Cert.ReferenceIdeal.Value.res_out0 m' c = Cert.KernelIdeal.Mean.result m c := by
  funext j
  rw [Cert.ReferenceIdeal.Mean.result_apply, h, div_256]
  rfl

end Cert.Mean

end
-- ==== Proof.lean ====
/-
  THE CERTIFICATE of `Cert.Claim` (Defs.lean): the kernel, its reading over the extended reals and the reference each run,
  leave `x` unchanged and end with every counter at zero; the idealization rewrote nothing; and, over the extended reals,
  the kernel and the reference end with equal results from equal arguments. What each computes is in Proof/Mean/: the
  argsort of a sorted array (Argsort.lean), the kernel's result (Kernel.lean), the reference's (Reference.lean), and
  the equation between the two (Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Mean.Equation
public import Idealize.ShloMosaic.Adequacy
public import Idealize.ShloMosaic.Init

@[expose] public section

noncomputable section

namespace Cert.Proof

open Idealize.ShloMosaic Idealize.SL.Sem

/-- The kernel runs at the machine's floats, its argument unchanged, every counter back at zero. -/
theorem frame_kernel : Cert.quiescent_Kernel (hKernel := Cert.Kernel.Gen.facts) :=
  fun m g _ => Cert.Kernel.Gen.frame m g

/-- The same of the kernel over the extended reals. -/
theorem frame_kernelIdeal : Cert.quiescent_KernelIdeal (hKernelIdeal := Cert.KernelIdeal.Gen.facts) :=
  fun m g _ => Cert.KernelIdeal.Gen.frame m g

/-- The same of the reference, which has no counter. -/
theorem frame_referenceIdeal : Cert.quiescent_ReferenceIdeal (hReferenceIdeal := Cert.ReferenceIdeal.Gen.facts) :=
  fun m g _ => (θ_run _ _ _).mono (fun r h => ⟨fun c => (h c).2, sem_eq_zero_of_no_sems (by decide) r.2⟩)
    (Cert.ReferenceIdeal.Value.run m g)

/-- The kernel's result is the reference's, at every input: the mean of row 1 of `x`, at every index. -/
theorem algebraic : Cert.algebraic_KernelIdeal_ReferenceIdeal (hKernelIdeal := Cert.KernelIdeal.Gen.facts)
    (hReferenceIdeal := Cert.ReferenceIdeal.Gen.facts) :=
  fun m g m' g' _ hagree => ⟨Cert.KernelIdeal.Mean.result m, Cert.KernelIdeal.Mean.run m g,
    (θ_run _ _ _).mono (fun _ h c => ⟨(h c).1.trans (Cert.Mean.results_eq m m' c (hagree c)), (h c).2⟩)
      (Cert.ReferenceIdeal.Value.run m' g')⟩

/-- Everything that the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
